-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x26x1 : Shape := ⟨3, ![4096, 26, 1]⟩
abbrev S4096x26x1000 : Shape := ⟨3, ![4096, 26, 1000]⟩
abbrev S512x26x1 : Shape := ⟨3, ![512, 26, 1]⟩
abbrev S512x26x1000 : Shape := ⟨3, ![512, 26, 1000]⟩

abbrev nBuf : Space → Nat
  | .hbm => 4
  | .vmem => 4
  | .smem => 0
  | _ => 0

abbrev bufTy : (tb : Table) → Fin (tcTables nBuf tb) → BufTy
  | .hbm, ⟨0, _⟩ => ⟨S4096x26x1, .i32⟩
  | .hbm, ⟨1, _⟩ => ⟨S4096x26x1000, .i8⟩
  | .hbm, ⟨2, _⟩ => ⟨S4096x26x1000, .i32⟩
  | .hbm, ⟨3, _⟩ => ⟨S4096x26x1000, .f32⟩
  | .local _ .vmem, ⟨0, _⟩ => ⟨S512x26x1, .i32⟩
  | .local _ .vmem, ⟨1, _⟩ => ⟨S512x26x1, .i32⟩
  | .local _ .vmem, ⟨2, _⟩ => ⟨S512x26x1000, .i8⟩
  | .local _ .vmem, ⟨3, _⟩ => ⟨S512x26x1000, .i8⟩
  | _, _ => ⟨S4096x26x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x26x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x1000 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4096x26x1 : Shape := ⟨3, ![4096, 26, 1]⟩
abbrev S4096x26x1x1 : Shape := ⟨4, ![4096, 26, 1, 1]⟩
abbrev S1x1x1x1000 : Shape := ⟨4, ![1, 1, 1, 1000]⟩
abbrev S4096x26x1x1000 : Shape := ⟨4, ![4096, 26, 1, 1000]⟩
abbrev S4096x26x1000 : Shape := ⟨3, ![4096, 26, 1000]⟩

abbrev nBuf : Space → Nat
  | .hbm => 8
  | .vmem => 0
  | .smem => 0
  | _ => 0

abbrev bufTy : (tb : Table) → Fin (tcTables nBuf tb) → BufTy
  | .hbm, ⟨0, _⟩ => ⟨S4096x26x1, .i32⟩
  | .hbm, ⟨1, _⟩ => ⟨S4096x26x1x1, .i32⟩
  | .hbm, ⟨2, _⟩ => ⟨S1x1x1x1000, .i32⟩
  | .hbm, ⟨3, _⟩ => ⟨S4096x26x1x1000, .i32⟩
  | .hbm, ⟨4, _⟩ => ⟨S4096x26x1x1000, .i32⟩
  | .hbm, ⟨5, _⟩ => ⟨S4096x26x1x1000, .i1⟩
  | .hbm, ⟨6, _⟩ => ⟨S4096x26x1x1000, .f32⟩
  | .hbm, ⟨7, _⟩ => ⟨S4096x26x1000, .f32⟩
  | _, _ => ⟨S4096x26x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_v1 : Ref sig .tc := ⟨.hbm, 7, rfl⟩

abbrev nD : Nat := 1
abbrev τ : Topo := Topo.v7x

variable {F : FTy → Type} [FloatOps F]
-- ==== Proof.OneHot.lean ====
/-
  The one-hot encoding as a function of its class numbers, and the pure terms that are shown equal to it: what the
  kernel's body computes of one block, the widening of the kernel's bytes to floats, and what the reference computes.
  Nothing here mentions a program's run.
-/
module

public import Idealize.ShloMosaic.PureOps.BitExact
public import Idealize.ShloMosaic.PureOps.Ideal
public import Idealize.ShloMosaic.Lib.Pipeline.Value
public import Idealize.ShloMosaic.Lib.ValueIdxCore

@[expose] public section

noncomputable section

namespace Cert.OneHot

open Idealize.ShloMosaic Idealize.ShloMosaic.ValueIdx

variable {F : FTy → Type} [FloatOps F]

/-- The class numbers: 4096 rows of 26 fields, with a trailing unit axis. -/
abbrev Num : Shape := ⟨3, ![4096, 26, 1]⟩
/-- The encoding: for each row and field one entry per class. -/
abbrev Enc : Shape := ⟨3, ![4096, 26, 1000]⟩

/-- The bit at (row, field, class): set exactly where the class number of the row's field is that class. -/
def hot (x : IVec Num 32) : IVec Enc 1 := fun i =>
  if x (ix3 (i 0) (i 1) 0) = BitVec.ofNat 32 (i 2).val then 1#1 else 0#1

/-- The encoding in f32: the bits of `hot` as the floats 0 and 1. -/
def encoded (F : FTy → Type) [FloatOps F] (x : IVec Num 32) : FVec F Enc .f32 := uitofp .f32 (hot x)

/-- An integer comparison for equality is the bit of the equation. -/
theorem cmpi_eq {w : Nat} (a b : BitVec w) : IntOp.cmpi .eq a b = if a = b then 1#1 else 0#1 := by
  by_cases h : a = b <;> simp [IntOp.cmpi, h, beq_eq_false_iff_ne.mpr]

/-- One block of the kernel: `n` rows of class numbers, broadcast along the classes and compared with the class
    axis's iota, at an index of the block. -/
theorem block_apply {n : Nat} (x : IVec (⟨3, ![n, 26, 1]⟩ : Shape) 32)
    (hb : (⟨3, ![n, 26, 1]⟩ : Shape).Broadcasts ⟨3, ![n, 26, 1000]⟩)
    (hi : (⟨3, ![n, 26, 1000]⟩ : Shape).Iotas .tc 32 [2]) (hn : n ≠ 1) (y : (⟨3, ![n, 26, 1000]⟩ : Shape).Idx) :
    cmpi .eq (broadcastTo (⟨3, ![n, 26, 1000]⟩ : Shape) x hb) (iota .tc (⟨3, ![n, 26, 1000]⟩ : Shape) 32 [2] hi) y
      = if x (ix3 (y 0) (y 1) 0) = BitVec.ofNat 32 (y 2).val then 1#1 else 0#1 := by
  show IntOp.cmpi .eq (broadcastTo _ x hb y) (iota .tc _ 32 [2] hi y) = _
  rw [cmpi_eq, iota_single_apply, broadcastTo_apply x hb y (ix3 (y 0) (y 1) 0)]
  intro a
  match a with
  | ⟨0, _⟩ => exact (if_neg hn).symm
  | ⟨1, _⟩ => rfl
  | ⟨2, _⟩ => rfl

/-- What the reference computes — the class numbers and an iota of the classes, both broadcast to
    [4096, 26, 1, 1000] and compared, the bits made floats and the unit axis dropped — is the encoding. -/
theorem reference_eq (x : IVec Num 32)
    (h₁ : Num.BroadcastsInDim ⟨4, ![4096, 26, 1, 1]⟩ ![0, 1, 2])
    (h₂ : (⟨4, ![4096, 26, 1, 1]⟩ : Shape).BroadcastsInDim ⟨4, ![4096, 26, 1, 1000]⟩ ![0, 1, 2, 3])
    (h₃ : (⟨4, ![1, 1, 1, 1000]⟩ : Shape).BroadcastsInDim ⟨4, ![4096, 26, 1, 1000]⟩ ![0, 1, 2, 3])
    (h₄ : (⟨4, ![4096, 26, 1, 1000]⟩ : Shape).ShapeCasts Enc) :
    shapeCast Enc (uitofp (F := F) .f32 (cmpi .eq
        (broadcastInDim (⟨4, ![4096, 26, 1, 1000]⟩ : Shape) ![0, 1, 2, 3] h₂
          (broadcastInDim (⟨4, ![4096, 26, 1, 1]⟩ : Shape) ![0, 1, 2] h₁ x))
        (broadcastInDim (⟨4, ![4096, 26, 1, 1000]⟩ : Shape) ![0, 1, 2, 3] h₃
          (iotaInDim (⟨4, ![1, 1, 1, 1000]⟩ : Shape) 32 3)))) h₄
      = encoded F x := by
  funext i
  rw [shapeCast_apply _ h₄ i (ix4 (i 0) (i 1) 0 (i 2)) (by
    show (Shape.rowMajorPi ![4096, 26, 1, 1000] (ix4 (i 0) (i 1) 0 (i 2))).val
      = (Shape.rowMajorPi ![4096, 26, 1000] i).val
    simp only [Shape.rowMajorPi_succ_val, Shape.rowMajorPi_zero]
    show (i 0).val * (26 * (1 * 1000)) + ((i 1).val * (1 * 1000) + (0 * 1000 + ((i 2).val * 1 + 0)))
      = (i 0).val * (26 * 1000) + ((i 1).val * 1000 + ((i 2).val * 1 + 0))
    omega)]
  show FloatOps.uitofp .f32 (IntOp.cmpi .eq _ _) = FloatOps.uitofp .f32 (hot x i)
  congr 1
  rw [cmpi_eq, broadcastInDim_apply _ h₂ _ _ (ix4 (i 0) (i 1) 0 0), broadcastInDim_apply _ h₁ _ _ (ix3 (i 0) (i 1) 0),
    broadcastInDim_apply _ h₃ _ _ (ix4 0 0 0 (i 2))]
  · rfl
  all_goals
    intro a
    fin_cases a <;> rfl

/-- A bit widened to a byte and the byte, read signed, to a word: as a signed number it is the bit. -/
theorem widened_toInt (b : BitVec 1) : ((b.setWidth 8).signExtend 32).toInt = (b.toNat : ℤ) := by
  revert b; decide

/-- The kernel's conversion of such a byte is the reference's of the bit: as bit patterns … -/
theorem widened_bits (b : BitVec 1) :
    FloatOps.sitofp (F := Bits) .f32 ((b.setWidth 8).signExtend 32) = FloatOps.uitofp (F := Bits) .f32 b := by
  show Bits.sitofp32 _ = Bits.uitofp32 _
  unfold Bits.sitofp32 Bits.uitofp32
  rw [widened_toInt]

/-- … and as extended reals. -/
theorem widened_ideal (b : BitVec 1) :
    FloatOps.sitofp (F := Ideal) .f32 ((b.setWidth 8).signExtend 32) = FloatOps.uitofp (F := Ideal) .f32 b := by
  show ((((b.setWidth 8).signExtend 32).toInt : ℝ) : EReal) = ((b.toNat : ℝ) : EReal)
  rw [widened_toInt]
  norm_cast

end Cert.OneHot

end
-- ==== Proof.KernelIdealValue.lean ====
/-
  What `KernelIdeal`'s result holds: the encoding of its argument, at a reading of floats where the byte conversion allows it. The region's array is read off the blocks that the grid's
  points write back, and the two conversions after the region are read off it.
-/
module

public import proofs.«01_k».proof.Proof.Gen.KernelIdeal.Frame
public import proofs.«01_k».proof.Proof.OneHot
public import Idealize.ShloMosaic.Lib.Pipeline.ValueKit
public import Idealize.ShloMosaic.Lib.StableHlo.Run

@[expose] public section

noncomputable section

namespace Cert.KernelIdeal.Encoding

open Cert.KernelIdeal Cert.KernelIdeal.Gen Cert.OneHot
open Idealize.ShloMosaic Idealize.ShloMosaic.TcCoe Idealize.SL.Sem

variable {F : FTy → Type} [FloatOps F]
variable (m : (ℓ : Loc nD τ sig) → Buf (Elt F) ℓ) (ρ : Dev nD → PrngReg)

/-- The bits of the encoding as bytes: what the region's output array is shown to hold. -/
abbrev bytes (c : Dev nD) : Buf (Elt F) ((c : Thread nD τ).loc main_v0) :=
  extui (s := Enc) 8 (hot (m ((c : Thread nD τ).loc main_arg0))) natLt_1_8

/-- The input's block at a point is numbered by the point along the rows, and is the only one along the other axes. -/
theorem index_in (t : Fin cfg0.N) : win0_0.index t = ![(grid0.coords t 0).val, 0, 0] := by
  revert t; decide +kernel
/-- The output's block at a point is numbered the same way. -/
theorem index_out (t : Fin cfg0.N) : win0_1.index t = ![(grid0.coords t 0).val, 0, 0] := by
  revert t; decide +kernel

/-- Where an index of the output's block at a point sits in the array: 512 rows on per point, the other axes kept. -/
theorem emb_out (t : Fin cfg0.N) (y : S512x26x1000.Idx) :
    (((win0_1.rect t).emb y 0 : Fin 4096) : Nat) = (grid0.coords t 0).val * 512 + (y 0).val
    ∧ (((win0_1.rect t).emb y 1 : Fin 26) : Nat) = (y 1).val
    ∧ (((win0_1.rect t).emb y 2 : Fin 1000) : Nat) = (y 2).val := by
  refine ⟨?_, ?_, ?_⟩ <;> refine (Pipeline.Window.rect_emb_val win0_1 t y _).trans ?_ <;> rw [index_out t]
  · rfl
  · exact (congrArg (· + (y 1).val) (Nat.zero_mul 26)).trans (Nat.zero_add _)
  · exact (congrArg (· + (y 2).val) (Nat.zero_mul 1000)).trans (Nat.zero_add _)

/-- The input's block at a point, at a row and a field: the class number at the row and field where the output's block
    sits. -/
theorem block_in (c : Dev nD) (t : Fin cfg0.N) (y : S512x26x1000.Idx) :
    iblk m c 0 t (ValueIdx.ix3 (y 0) (y 1) 0)
      = m ((c : Thread nD τ).loc main_arg0) (ValueIdx.ix3 ((win0_1.rect t).emb y 0) ((win0_1.rect t).emb y 1) 0) := by
  show m ((c : Thread nD τ).loc main_arg0) ((win0_0.rect t).emb (ValueIdx.ix3 (y 0) (y 1) 0)) = _
  congr 1
  funext a
  refine Fin.ext ((Pipeline.Window.rect_emb_val win0_0 t (ValueIdx.ix3 (y 0) (y 1) 0) a).trans ?_)
  rw [index_in t]
  match a with
  | ⟨0, _⟩ => exact (emb_out t y).1.symm
  | ⟨1, _⟩ => exact ((congrArg (· + (y 1).val) (Nat.zero_mul 26)).trans (Nat.zero_add _)).trans (emb_out t y).2.1.symm
  | ⟨2, _⟩ => rfl

/-- The region's output array after the last point: the blocks tile it, and what a point writes at an index of its
    block is the byte of the encoding at that index of the array. -/
theorem region (c : Dev nD) : (dats m 0 c).arrAt 1 cfg0.N = bytes m c := by
  refine (dats m 0 c).arrAt_eq_of_covers 1 _ (by decide +kernel) fun t hf y => ?_
  blk_simp
  rw [after0_1]
  frame_out
  show (cmpi .eq _ _ y).setWidth 8 = _
  rw [block_apply (n := 512) (iblk m c 0 t) broadcasts_S512x26x1_S512x26x1000 iota_S512x26x1000_d2_w32 (by decide) y]
  exact congrArg (BitVec.setWidth 8) (by
    rw [block_in m c t y, ← (emb_out t y).2.2]
    rfl)

/-- The program's result after the conversions that follow the region: the bytes widened to words and made floats. -/
theorem tail (c : Dev nD) :
    Pipeline.afterTail₀ cfgs (dats m) 0 (V0 m) [hostOps1] c main_v2
      = sitofp .f32 (extsi (s := Enc) 32 (bytes m c) natLt_8_32) := by
  have h := Pipeline.withArrays_arr spec0 launch0.win.arr_inj c (V0 m c) (fun w => (dats m 0 c).arrAt w cfg0.N) 1
  rw [region m c] at h
  unfold Pipeline.afterTail₀
  simp only [hostOps1, List.flatten_cons, List.flatten_nil, List.append_nil]
  after_results
  exact congrArg (fun a => sitofp .f32 (extsi (s := Enc) 32 a natLt_8_32)) h

/-- At an instance where converting the widened bytes is converting the bits (`hw`), every execution ends with the
    result at the encoding of the argument, and the argument unchanged. -/
theorem run (hw : ∀ b : BitVec 1, FloatOps.sitofp (F := F) .f32 ((b.setWidth 8).signExtend 32) = FloatOps.uitofp (F := F) .f32 b) :
    θ_run defs (onTc (τ := τ) (main (F := F))) ⟨m, fun _ => 0, ρ⟩ fun r => ∀ c : Dev nD,
      r.2.mem ((c : Thread nD τ).loc main_v2) = encoded F (m ((c : Thread nD τ).loc main_arg0))
      ∧ r.2.mem ((c : Thread nD τ).loc main_arg0) = m ((c : Thread nD τ).loc main_arg0) :=
  (θ_run defs _ _).mono (fun _ h c =>
    ⟨(((h c).2 main_v2 (Pipeline.mem_restRefs_of main_v2 rfl (by decide))).trans (tail m c)).trans (funext fun _ => hw _),
      ((h c).1 0).trans (((dats m 0 c).arrAt_in 0 rfl _).trans ((A_eq m c 0).trans (V_main_arg0 m c)))⟩)
    (run_main m ρ)

end Cert.KernelIdeal.Encoding

end
-- ==== Proof.lean ====
/-
  The proof of `Cert.Claim`: the four frames, the idealization, and the two value claims. Both value claims say that the
  kernel and the reference end with the same array, the one-hot encoding of the argument (Proof/OneHot.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.KernelValue
public import proofs.«01_k».proof.Proof.KernelIdealValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.OneHot

/-- `Kernel` terminates with its argument unchanged and every semaphore at zero. -/
theorem frame_kernel : Cert.quiescent_Kernel := fun m g _ => Cert.Kernel.Gen.frame m g

/-- `KernelIdeal` terminates with its argument unchanged and every semaphore at zero. -/
theorem frame_kernelIdeal : Cert.quiescent_KernelIdeal := fun m g _ => Cert.KernelIdeal.Gen.frame m g

/-- `Reference` terminates with its argument unchanged; it has no semaphore. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- `ReferenceIdeal` terminates with its argument unchanged; it has no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals the kernel and the reference both end with the encoding of the argument. -/
theorem algebraic : Cert.algebraic_KernelIdeal_ReferenceIdeal := fun m g m' g' _ hargs =>
  ⟨fun c => encoded Ideal (m ((c.tc : Thread Cert.KernelIdeal.nD Cert.KernelIdeal.τ).loc Cert.KernelIdeal.main_arg0)),
    Cert.KernelIdeal.Encoding.run m g widened_ideal,
    (θ_run Cert.ReferenceIdeal.defs _ _).mono
      (fun _ h c => ⟨((h c).1.trans (reference_eq _ _ _ _ _)).trans (congrArg (encoded Ideal) (hargs c)), (h c).2⟩)
      (Cert.ReferenceIdeal.Value.run (F := Ideal) m' g')⟩

/-- As bit patterns, too, the kernel and the reference both end with the encoding of the argument. -/
theorem bitexact : Cert.bitexact_Kernel_Reference := fun m g m' g' _ hargs =>
  ⟨fun c => encoded Bits (m ((c.tc : Thread Cert.Kernel.nD Cert.Kernel.τ).loc Cert.Kernel.main_arg0)),
    Cert.Kernel.Encoding.run m g widened_bits,
    (θ_run Cert.Reference.defs _ _).mono
      (fun _ h c => ⟨((h c).1.trans (reference_eq _ _ _ _ _)).trans (congrArg (encoded Bits) (hargs c)), (h c).2⟩)
      (Cert.Reference.Value.run (F := Bits) m' g')⟩

/-- Every claim of the certificate. -/
theorem claim : Cert.Claim :=
  ⟨Cert.Kernel.Gen.facts, Cert.Reference.Gen.facts, Cert.KernelIdeal.Gen.facts, Cert.ReferenceIdeal.Gen.facts,
    frame_kernel, frame_reference, frame_kernelIdeal, frame_referenceIdeal, trivial, algebraic, bitexact⟩

end Cert.Proof

end
